-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x128 : Shape := ⟨3, ![8, 2048, 128]⟩
abbrev S8x2x2048x8 : Shape := ⟨4, ![8, 2, 2048, 8]⟩
abbrev S8x2048x8 : Shape := ⟨3, ![8, 2048, 8]⟩
abbrev S2048x2048 : Shape := ⟨2, ![2048, 2048]⟩
abbrev S2048x8 : Shape := ⟨2, ![2048, 8]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S1x2048x1 : Shape := ⟨3, ![1, 2048, 1]⟩
abbrev S1x1x2048x1 : Shape := ⟨4, ![1, 1, 2048, 1]⟩
abbrev S1x1x2048x8 : Shape := ⟨4, ![1, 1, 2048, 8]⟩
abbrev S8x2x16384 : Shape := ⟨3, ![8, 2, 16384]⟩
abbrev S8x16384 : Shape := ⟨2, ![8, 16384]⟩

abbrev nBuf : Space → Nat
  | .hbm => 5
  | .vmem => 3
  | .smem => 0
  | _ => 0

abbrev bufTy : (tb : Table) → Fin (tcTables nBuf tb) → BufTy
  | .hbm, ⟨0, _⟩ => ⟨S8x2048x128, .f32⟩
  | .hbm, ⟨1, _⟩ => ⟨S8x2x2048x8, .i32⟩
  | .hbm, ⟨2, _⟩ => ⟨S8x2048x8, .f32⟩
  | .hbm, ⟨3, _⟩ => ⟨S8x2x16384, .i32⟩
  | .hbm, ⟨4, _⟩ => ⟨S8x16384, .f32⟩
  | .local _ .vmem, ⟨0, _⟩ => ⟨S8x2048x128, .f32⟩
  | .local _ .vmem, ⟨1, _⟩ => ⟨S8x2x2048x8, .i32⟩
  | .local _ .vmem, ⟨2, _⟩ => ⟨S8x2048x8, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x2048x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x128x2048 : Shape := ⟨3, ![8, 128, 2048]⟩
abbrev S8x2048x2048 : Shape := ⟨3, ![8, 2048, 2048]⟩
abbrev S2048 : Shape := ⟨1, ![2048]⟩
abbrev S2048x1 : Shape := ⟨2, ![2048, 1]⟩
abbrev S2048x2 : Shape := ⟨2, ![2048, 2]⟩
abbrev S8x2048x8 : Shape := ⟨3, ![8, 2048, 8]⟩
abbrev S2048x8 : Shape := ⟨2, ![2048, 8]⟩
abbrev S16384 : Shape := ⟨1, ![16384]⟩
abbrev S8x16384 : Shape := ⟨2, ![8, 16384]⟩
abbrev S8x1x16384 : Shape := ⟨3, ![8, 1, 16384]⟩
abbrev S8x2x16384 : Shape := ⟨3, ![8, 2, 16384]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S_, .f32⟩
  | .hbm, ⟨3, _⟩ => ⟨S8x2048, .f32⟩
  | .hbm, ⟨4, _⟩ => ⟨S8x2048x1, .f32⟩
  | .hbm, ⟨5, _⟩ => ⟨S8x2048x1, .f32⟩
  | .hbm, ⟨6, _⟩ => ⟨S_, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x128, .f32⟩
  | .hbm, ⟨11, _⟩ => ⟨S8x2048x128, .f32⟩
  | .hbm, ⟨12, _⟩ => ⟨S8x128x2048, .f32⟩
  | .hbm, ⟨13, _⟩ => ⟨S8x2048x2048, .f32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S2048x1, .i32⟩
  | .hbm, ⟨30, _⟩ => ⟨S2048x1, .i32⟩
  | .hbm, ⟨31, _⟩ => ⟨S2048x2, .i32⟩
  | .hbm, ⟨32, _⟩ => ⟨S_, .f32⟩
  | .hbm, ⟨33, _⟩ => ⟨S2048, .f32⟩
  | .hbm, ⟨34, _⟩ => ⟨S8x2048, .f32⟩
  | .hbm, ⟨35, _⟩ => ⟨S8x2048x2048, .f32⟩
  | .hbm, ⟨36, _⟩ => ⟨S8x2048x8, .f32⟩
  | .hbm, ⟨37, _⟩ => ⟨S8x2048x8, .i32⟩
  | .hbm, ⟨38, _⟩ => ⟨S2048, .i32⟩
  | .hbm, ⟨39, _⟩ => ⟨S2048x8, .i32⟩
  | .hbm, ⟨40, _⟩ => ⟨S16384, .i32⟩
  | .hbm, ⟨41, _⟩ => ⟨S8x16384, .i32⟩
  | .hbm, ⟨42, _⟩ => ⟨S8x16384, .i32⟩
  | .hbm, ⟨43, _⟩ => ⟨S8x1x16384, .i32⟩
  | .hbm, ⟨44, _⟩ => ⟨S8x1x16384, .i32⟩
  | .hbm, ⟨45, _⟩ => ⟨S8x2x16384, .i32⟩
  | .hbm, ⟨46, _⟩ => ⟨S8x16384, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_call1_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_values : Ref sig .tc := ⟨.hbm, 36, rfl⟩
abbrev main_indices : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Proof.Block.lean ====
/- What the kernel's body computes for one batch, as vector functions of that batch's slab of features: the masked
   similarities, and the rounds that take the row-wise maximum, its first column, and mask that column. -/
module

public import proofs.«01_k».proof.Proof.Gen.KernelIdeal.Frame

@[expose] public section

noncomputable section

namespace Cert.KernelIdeal.Knn

open Cert.KernelIdeal Cert.KernelIdeal.Gen Idealize.ShloMosaic Idealize.ShloMosaic.TcCoe

variable {F : FTy → Type} [FloatOps F]

/-- The column number of every entry, as a float. -/
def cols : FVec F S2048x2048 .f32 := sitofp .f32 (iota .tc S2048x2048 32 [1] iota_S2048x2048_d1_w32)

/-- The diagonal's mask. -/
def diag : IVec S2048x2048 1 :=
  cmpi .eq (iota .tc S2048x2048 32 [0] iota_S2048x2048_d0_w32) (iota .tc S2048x2048 32 [1] iota_S2048x2048_d1_w32)

/-- A batch's rows, each divided by the larger of its norm and the small constant. -/
def unitRows (slab : FVec F S2048x128 .f32) : FVec F S2048x128 .f32 :=
  divf slab (broadcastTo S2048x128
    (maximumf
      (sqrt (shapeCast S2048x1
        (multiReduction .add [1] S2048 (mulf slab slab) 0x00000000#32 reduces_S2048x128_S2048 (.inl rfl) rfl)
        shapeCasts_S2048_S2048x1))
      (broadcast S2048x1 (Scalar.ofBits .f32 0x2B8CBCCC#32)))
    broadcasts_S2048x1_S2048x128)

/-- A batch's similarities, −∞ on the diagonal. -/
def sims (slab : FVec F S2048x128 .f32) : FVec F S2048x2048 .f32 :=
  select diag (broadcast S2048x2048 (Scalar.ofBits .f32 0xFF800000#32))
    (matmul dot_S2048x128_S2048x128_S2048x2048_1_1_0_0_n_n none (unitRows slab) (unitRows slab)
      (constant S2048x2048 .f32 0x00000000#32))

/-- A round's maxima, one a row. -/
def maxCol (s : FVec F S2048x2048 .f32) : FVec F S2048x1 .f32 :=
  shapeCast S2048x1
    (multiReduction .maximumf [1] S2048 s 0xFF800000#32 reduces_S2048x2048_S2048 (.inl rfl) rfl)
    shapeCasts_S2048_S2048x1

/-- A round's picks, one a row: the least column number among the entries equal to the row's maximum. -/
def argCol (s : FVec F S2048x2048 .f32) : FVec F S2048x1 .f32 :=
  shapeCast S2048x1
    (multiReduction .minimumf [1] S2048
      (select (cmpf .oeq s (broadcastTo S2048x2048 (maxCol s) broadcasts_S2048x1_S2048x2048)) cols
        (broadcast S2048x2048 (Scalar.ofBits .f32 0x45000000#32)))
      0x7F800000#32 reduces_S2048x2048_S2048 (.inl rfl) rfl)
    shapeCasts_S2048_S2048x1

/-- What a round leaves for the next one: every row's pick is masked with −∞. -/
def mask (s : FVec F S2048x2048 .f32) : FVec F S2048x2048 .f32 :=
  select (cmpf .oeq cols (broadcastTo S2048x2048 (argCol s) broadcasts_S2048x1_S2048x2048))
    (broadcast S2048x2048 (Scalar.ofBits .f32 0xFF800000#32)) s

/-- The similarities as round `j` finds them. -/
def rounds (s : FVec F S2048x2048 .f32) : ℕ → FVec F S2048x2048 .f32
  | 0 => s
  | j + 1 => mask (rounds s j)

/-- The maxima as they are stored. -/
def valBlock (s : FVec F S2048x2048 .f32) : FVec F S1x2048x1 .f32 :=
  shapeCast S1x2048x1 (shapeCast S2048 (maxCol s) shapeCasts_S2048x1_S2048) shapeCasts_S2048_S1x2048x1

/-- The picks as they are stored. -/
def idxBlock (s : FVec F S2048x2048 .f32) : IVec S1x1x2048x1 32 :=
  shapeCast S1x1x2048x1 (fptosi 32 (shapeCast S2048 (argCol s) shapeCasts_S2048x1_S2048)) shapeCasts_S2048_S1x1x2048x1

/-- The row numbers as they are stored. -/
def srcBlock : IVec S1x1x2048x8 32 :=
  shapeCast S1x1x2048x8 (iota .tc S2048x8 32 [0] iota_S2048x8_d0_w32) shapeCasts_S2048x8_S1x1x2048x8

end Cert.KernelIdeal.Knn

end
-- ==== Proof.Pieces.lean ====
/- The two arrays the body leaves, as functions of the array of features: every store of the body is a block of them. -/
module

public import proofs.«01_k».proof.Proof.Block
public import Idealize.ShloMosaic.Lib.Pipeline.Value
public import Idealize.ShloMosaic.Lib.Pipeline.ReadBack
public import Idealize.ShloMosaic.Lib.Pipeline.ValueKit

@[expose] public section

set_option maxRecDepth 16384

noncomputable section

namespace Cert.KernelIdeal.Knn

open Cert.KernelIdeal Cert.KernelIdeal.Gen Idealize.ShloMosaic Idealize.ShloMosaic.TcCoe

variable {F : FTy → Type} [FloatOps F]

/-- A batch's slab lies in the array of features. -/
theorem slab_inb (b : Fin 8) (a : Fin 3) : (![b.val, 0, 0] : Fin 3 → ℕ) a + S1x2048x128.size a ≤ S8x2048x128.size a := by
  revert b a; decide

/-- A batch's slab of the array of features. -/
def slab (x : Vec F S8x2048x128 .f32) (b : Fin 8) : FVec F S2048x128 .f32 :=
  shapeCast S2048x128 (View.ld x (Rect.unit ![b.val, 0, 0] S1x2048x128.size (slab_inb b))) shapeCasts_S1x2048x128_S2048x128

/-- A batch's similarities as its round `j` finds them. -/
def stage (x : Vec F S8x2048x128 .f32) (b : Fin 8) (j : ℕ) : FVec F S2048x2048 .f32 := rounds (sims (slab x b)) j

/-- The array of weights: entry (b, n, j) is the maximum of row `n` in batch `b`'s round `j`. -/
def weights (x : Vec F S8x2048x128 .f32) : Vec F S8x2048x8 .f32 := fun i =>
  valBlock (stage x (i 0) (i 2).val) (ValueIdx.ix3 0 (i 1) 0)

/-- The array of edges: the row numbers, then round by round the picks. -/
def edges (x : Vec F S8x2048x128 .f32) : Vec F S8x2x2048x8 .i32 := fun i =>
  if (i 1).val = 0 then srcBlock (ValueIdx.ix4 0 0 (i 2) (i 3))
  else idxBlock (stage x (i 0) (i 3).val) (ValueIdx.ix4 0 0 (i 2) 0)

/-- A stored column of maxima is a block of the array of weights. -/
theorem weights_block (x : Vec F S8x2048x128 .f32) (b j : ℕ) (hb : b < 8) (v : Vec F S1x2048x1 .f32)
    (hv : v = valBlock (stage x ⟨b, hb⟩ j))
    (inb : ∀ a, (![b, 0, j] : Fin 3 → ℕ) a + (![1, 2048, 1] : Fin 3 → ℕ) a ≤ S8x2048x8.size a)
    (y : (Rect.unit (s := S8x2048x8) ![b, 0, j] ![1, 2048, 1] inb).shape.Idx) :
    v y = weights x ((Rect.unit (s := S8x2048x8) ![b, 0, j] ![1, 2048, 1] inb).emb y) := by
  have h0 : ((Rect.unit (s := S8x2048x8) ![b, 0, j] ![1, 2048, 1] inb).emb y 0).val = b + (y 0).val :=
    ValueKit.rect_emb_unit_val _ _ _ _ _
  have h1 : ((Rect.unit (s := S8x2048x8) ![b, 0, j] ![1, 2048, 1] inb).emb y 1).val = 0 + (y 1).val :=
    ValueKit.rect_emb_unit_val _ _ _ _ _
  have h2 : ((Rect.unit (s := S8x2048x8) ![b, 0, j] ![1, 2048, 1] inb).emb y 2).val = j + (y 2).val :=
    ValueKit.rect_emb_unit_val _ _ _ _ _
  have y0 : (y 0).val < 1 := (y 0).isLt
  have y2 : (y 2).val < 1 := (y 2).isLt
  have e0 : (Rect.unit (s := S8x2048x8) ![b, 0, j] ![1, 2048, 1] inb).emb y 0 = (⟨b, hb⟩ : Fin 8) :=
    Fin.ext (h0.trans (by show b + (y 0).val = b; omega))
  have e2 : ((Rect.unit (s := S8x2048x8) ![b, 0, j] ![1, 2048, 1] inb).emb y 2).val = j := by omega
  unfold weights
  rw [e0, e2, hv]
  refine congrArg _ (funext fun a => ?_)
  match a with
  | ⟨0, _⟩ => exact Fin.ext (by show (y 0).val = 0; omega)
  | ⟨1, _⟩ => exact Fin.ext (h1.symm ▸ (Nat.zero_add _).symm)
  | ⟨2, _⟩ => exact Fin.ext (by show (y 2).val = 0; omega)

/-- Such a store before stores that are blocks of the array of weights. -/
theorem weights_cons (x : Vec F S8x2048x128 .f32) (b j : ℕ) (hb : b < 8) (v : Vec F S1x2048x1 .f32)
    (inb : ∀ a, (![b, 0, j] : Fin 3 → ℕ) a + (![1, 2048, 1] : Fin 3 → ℕ) a ≤ S8x2048x8.size a)
    (L : List (View.Piece (Elt F) S8x2048x8 .f32)) (hv : v = valBlock (stage x ⟨b, hb⟩ j))
    (hL : View.PiecesOf (weights x) L) :
    View.PiecesOf (weights x) (⟨Rect.unit (s := S8x2048x8) ![b, 0, j] ![1, 2048, 1] inb, v⟩ :: L) :=
  ⟨fun y => weights_block x b j hb v hv inb y, hL⟩

/-- A stored column of picks is a block of the array of edges. -/
theorem picks_block (x : Vec F S8x2048x128 .f32) (b j : ℕ) (hb : b < 8) (v : Vec F S1x1x2048x1 .i32)
    (hv : v = idxBlock (stage x ⟨b, hb⟩ j))
    (inb : ∀ a, (![b, 1, 0, j] : Fin 4 → ℕ) a + (![1, 1, 2048, 1] : Fin 4 → ℕ) a ≤ S8x2x2048x8.size a)
    (y : (Rect.unit (s := S8x2x2048x8) ![b, 1, 0, j] ![1, 1, 2048, 1] inb).shape.Idx) :
    v y = edges x ((Rect.unit (s := S8x2x2048x8) ![b, 1, 0, j] ![1, 1, 2048, 1] inb).emb y) := by
  have h0 : ((Rect.unit (s := S8x2x2048x8) ![b, 1, 0, j] ![1, 1, 2048, 1] inb).emb y 0).val = b + (y 0).val :=
    ValueKit.rect_emb_unit_val _ _ _ _ _
  have h1 : ((Rect.unit (s := S8x2x2048x8) ![b, 1, 0, j] ![1, 1, 2048, 1] inb).emb y 1).val = 1 + (y 1).val :=
    ValueKit.rect_emb_unit_val _ _ _ _ _
  have h2 : ((Rect.unit (s := S8x2x2048x8) ![b, 1, 0, j] ![1, 1, 2048, 1] inb).emb y 2).val = 0 + (y 2).val :=
    ValueKit.rect_emb_unit_val _ _ _ _ _
  have h3 : ((Rect.unit (s := S8x2x2048x8) ![b, 1, 0, j] ![1, 1, 2048, 1] inb).emb y 3).val = j + (y 3).val :=
    ValueKit.rect_emb_unit_val _ _ _ _ _
  have y0 : (y 0).val < 1 := (y 0).isLt
  have y1 : (y 1).val < 1 := (y 1).isLt
  have y3 : (y 3).val < 1 := (y 3).isLt
  have e0 : (Rect.unit (s := S8x2x2048x8) ![b, 1, 0, j] ![1, 1, 2048, 1] inb).emb y 0 = (⟨b, hb⟩ : Fin 8) :=
    Fin.ext (h0.trans (by show b + (y 0).val = b; omega))
  have e3 : ((Rect.unit (s := S8x2x2048x8) ![b, 1, 0, j] ![1, 1, 2048, 1] inb).emb y 3).val = j := by omega
  unfold edges
  rw [if_neg (by omega), e0, e3, hv]
  refine congrArg _ (funext fun a => ?_)
  match a with
  | ⟨0, _⟩ => exact Fin.ext (by show (y 0).val = 0; omega)
  | ⟨1, _⟩ => exact Fin.ext (by show (y 1).val = 0; omega)
  | ⟨2, _⟩ => exact Fin.ext (h2.symm ▸ (Nat.zero_add _).symm)
  | ⟨3, _⟩ => exact Fin.ext (by show (y 3).val = 0; omega)

/-- Such a store before stores that are blocks of the array of edges. -/
theorem picks_cons (x : Vec F S8x2048x128 .f32) (b j : ℕ) (hb : b < 8) (v : Vec F S1x1x2048x1 .i32)
    (inb : ∀ a, (![b, 1, 0, j] : Fin 4 → ℕ) a + (![1, 1, 2048, 1] : Fin 4 → ℕ) a ≤ S8x2x2048x8.size a)
    (L : List (View.Piece (Elt F) S8x2x2048x8 .i32)) (hv : v = idxBlock (stage x ⟨b, hb⟩ j))
    (hL : View.PiecesOf (edges x) L) :
    View.PiecesOf (edges x) (⟨Rect.unit (s := S8x2x2048x8) ![b, 1, 0, j] ![1, 1, 2048, 1] inb, v⟩ :: L) :=
  ⟨fun y => picks_block x b j hb v hv inb y, hL⟩

/-- The stored row numbers are a block of the array of edges. -/
theorem rows_block (x : Vec F S8x2048x128 .f32) (b : ℕ)
    (inb : ∀ a, (![b, 0, 0, 0] : Fin 4 → ℕ) a + (![1, 1, 2048, 8] : Fin 4 → ℕ) a ≤ S8x2x2048x8.size a)
    (y : (Rect.unit (s := S8x2x2048x8) ![b, 0, 0, 0] ![1, 1, 2048, 8] inb).shape.Idx) :
    srcBlock y = edges x ((Rect.unit (s := S8x2x2048x8) ![b, 0, 0, 0] ![1, 1, 2048, 8] inb).emb y) := by
  have h1 : ((Rect.unit (s := S8x2x2048x8) ![b, 0, 0, 0] ![1, 1, 2048, 8] inb).emb y 1).val = 0 + (y 1).val :=
    ValueKit.rect_emb_unit_val _ _ _ _ _
  have h2 : ((Rect.unit (s := S8x2x2048x8) ![b, 0, 0, 0] ![1, 1, 2048, 8] inb).emb y 2).val = 0 + (y 2).val :=
    ValueKit.rect_emb_unit_val _ _ _ _ _
  have h3 : ((Rect.unit (s := S8x2x2048x8) ![b, 0, 0, 0] ![1, 1, 2048, 8] inb).emb y 3).val = 0 + (y 3).val :=
    ValueKit.rect_emb_unit_val _ _ _ _ _
  have y0 : (y 0).val < 1 := (y 0).isLt
  have y1 : (y 1).val < 1 := (y 1).isLt
  unfold edges
  rw [if_pos (by omega)]
  refine congrArg _ (funext fun a => ?_)
  match a with
  | ⟨0, _⟩ => exact Fin.ext (by show (y 0).val = 0; omega)
  | ⟨1, _⟩ => exact Fin.ext (by show (y 1).val = 0; omega)
  | ⟨2, _⟩ => exact Fin.ext (h2.symm ▸ (Nat.zero_add _).symm)
  | ⟨3, _⟩ => exact Fin.ext (h3.symm ▸ (Nat.zero_add _).symm)

/-- Such a store before stores that are blocks of the array of edges. -/
theorem rows_cons (x : Vec F S8x2048x128 .f32) (b : ℕ) (v : Vec F S1x1x2048x8 .i32)
    (inb : ∀ a, (![b, 0, 0, 0] : Fin 4 → ℕ) a + (![1, 1, 2048, 8] : Fin 4 → ℕ) a ≤ S8x2x2048x8.size a)
    (L : List (View.Piece (Elt F) S8x2x2048x8 .i32)) (hv : v = srcBlock) (hL : View.PiecesOf (edges x) L) :
    View.PiecesOf (edges x) (⟨Rect.unit (s := S8x2x2048x8) ![b, 0, 0, 0] ![1, 1, 2048, 8] inb, v⟩ :: L) :=
  ⟨fun y => by subst hv; exact rows_block x b inb y, hL⟩

/-! ## The printed text folds back into the functions of a batch's slab -/

/-- The printed row maxima. -/
theorem fold_max (s : FVec F S2048x2048 .f32) :
    shapeCast S2048x1 (multiReduction .maximumf [1] S2048 s 0xFF800000#32 reduces_S2048x2048_S2048 (.inl rfl) rfl)
      shapeCasts_S2048_S2048x1 = maxCol s := rfl

/-- The printed picks. -/
theorem fold_arg (s : FVec F S2048x2048 .f32) :
    shapeCast S2048x1 (multiReduction .minimumf [1] S2048
      (select (cmpf .oeq s (broadcastTo S2048x2048 (maxCol s) broadcasts_S2048x1_S2048x2048)) cols
        (broadcast S2048x2048 (Scalar.ofBits .f32 0x45000000#32)))
      0x7F800000#32 reduces_S2048x2048_S2048 (.inl rfl) rfl) shapeCasts_S2048_S2048x1 = argCol s := rfl

/-- The printed masking of the picks. -/
theorem fold_mask (s : FVec F S2048x2048 .f32) :
    select (cmpf .oeq cols (broadcastTo S2048x2048 (argCol s) broadcasts_S2048x1_S2048x2048))
      (broadcast S2048x2048 (Scalar.ofBits .f32 0xFF800000#32)) s = mask s := rfl

/-- The printed block of maxima. -/
theorem fold_val (s : FVec F S2048x2048 .f32) :
    shapeCast S1x2048x1 (shapeCast S2048 (maxCol s) shapeCasts_S2048x1_S2048) shapeCasts_S2048_S1x2048x1
      = valBlock s := rfl

/-- The printed block of picks. -/
theorem fold_idx (s : FVec F S2048x2048 .f32) :
    shapeCast S1x1x2048x1 (fptosi 32 (shapeCast S2048 (argCol s) shapeCasts_S2048x1_S2048)) shapeCasts_S2048_S1x1x2048x1
      = idxBlock s := rfl

/-- The printed column numbers. -/
theorem fold_cols : (sitofp .f32 (iota .tc S2048x2048 32 [1] iota_S2048x2048_d1_w32) : FVec F S2048x2048 .f32) = cols := rfl

/-- The printed division by the norms. -/
theorem fold_unitRows (slab : FVec F S2048x128 .f32) :
    divf slab (broadcastTo S2048x128
      (maximumf
        (sqrt (shapeCast S2048x1
          (multiReduction .add [1] S2048 (mulf slab slab) 0x00000000#32 reduces_S2048x128_S2048 (.inl rfl) rfl)
          shapeCasts_S2048_S2048x1))
        (broadcast S2048x1 (Scalar.ofBits .f32 0x2B8CBCCC#32)))
      broadcasts_S2048x1_S2048x128) = unitRows slab := rfl

/-- The printed similarities with the diagonal masked. -/
theorem fold_sims (slab : FVec F S2048x128 .f32) :
    select (cmpi .eq (iota .tc S2048x2048 32 [0] iota_S2048x2048_d0_w32) (iota .tc S2048x2048 32 [1] iota_S2048x2048_d1_w32))
      (broadcast S2048x2048 (Scalar.ofBits .f32 0xFF800000#32))
      (matmul dot_S2048x128_S2048x128_S2048x2048_1_1_0_0_n_n none (unitRows slab) (unitRows slab)
        (constant S2048x2048 .f32 0x00000000#32)) = sims slab := rfl

set_option maxHeartbeats 4000000 in
/-- Every store of the body is a block of the array of edges or of the array of weights. -/
theorem pieces (c : Dev nD) (arg0 : Memref sig .tc .vmem S8x2048x128 .f32) (harg0 : arg0.IsWhole)
    (arg1 : Memref sig .tc .vmem S8x2x2048x8 .i32) (harg1 : arg1.IsWhole) (arg2 : Memref sig .tc .vmem S8x2048x8 .f32)
    (harg2 : arg2.IsWhole) (x : Vec F S8x2048x128 .f32) :
    View.PiecesOf (edges x) (kernelRun0_A c arg0 harg0 arg1 harg1 arg2 harg2 x).1
      ∧ View.PiecesOf (weights x) (kernelRun0_A c arg0 harg0 arg1 harg1 arg2 harg2 x).2.1 := by
  unfold kernelRun0_A
  dsimp only
  sl_unfold_words
  simp only [View.readAt_eq_ld, harg0.read_unread]
  simp only [fold_max (F := F), fold_arg (F := F), fold_mask (F := F), fold_val (F := F), fold_idx (F := F),
    fold_cols (F := F), fold_unitRows (F := F), fold_sims (F := F),
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260,
    k0_pay261, k0_pay262, k0_pay263, k0_pay264, k0_pay265, k0_pay266, k0_pay267, k0_pay268, k0_pay269, k0_pay270,
    k0_pay271, k0_pay272, k0_pay273, k0_pay274, k0_pay275, k0_pay276, k0_pay277, k0_pay278, k0_pay279, k0_pay280,
    k0_pay281, k0_pay282, k0_pay283, k0_pay284, k0_pay285, k0_pay286, k0_pay287, k0_pay288, k0_pay289, k0_pay290,
    k0_pay291, k0_pay292, k0_pay293, k0_pay294, k0_pay295, k0_pay296, k0_pay297, k0_pay298, k0_pay299, k0_pay300,
    k0_pay301, k0_pay302, k0_pay303, k0_pay304, k0_pay305, k0_pay306, k0_pay307, k0_pay308, k0_pay309, k0_pay310,
    k0_pay311, k0_pay312, k0_pay313, k0_pay314, k0_pay315, k0_pay316, k0_pay317, k0_pay318, k0_pay319, k0_pay320,
    k0_pay321, k0_pay322, k0_pay323, k0_pay324, k0_pay325, k0_pay326, k0_pay327, k0_pay328, k0_pay329, k0_pay330,
    k0_pay331, k0_pay332, k0_pay333, k0_pay334, k0_pay335, k0_pay336, k0_pay337, k0_pay338, k0_pay339, k0_pay340,
    k0_pay341, k0_pay342, k0_pay343, k0_pay344, k0_pay345, k0_pay346, k0_pay347, k0_pay348, k0_pay349, k0_pay350,
    k0_pay351, k0_pay352, k0_pay353]
  constructor
  · repeat' first
      | refine picks_cons x _ _ (by decide) _ _ _ rfl ?_
      | refine rows_cons x _ _ _ _ rfl ?_
    trivial
  · repeat' refine weights_cons x _ _ (by decide) _ _ _ rfl ?_
    trivial

end Cert.KernelIdeal.Knn

end
-- ==== Proof.KernelValue.lean ====
/- What the kernel's results hold after the run: the arrays of edges and of weights of the argument, reshaped. -/
module

public import proofs.«01_k».proof.Proof.Pieces
public import Idealize.ShloMosaic.Lib.StableHlo.RunClose

@[expose] public section

set_option maxRecDepth 16384

noncomputable section

namespace Cert.KernelIdeal.Knn

open Cert.KernelIdeal Cert.KernelIdeal.Gen Idealize.ShloMosaic Idealize.ShloMosaic.TcCoe Idealize.SL.Sem

variable {F : FTy → Type} [FloatOps F]

/-- What the body leaves in the first output's buffer. -/
theorem out_edges (c : Dev nD) (arg0 : Memref sig .tc .vmem S8x2048x128 .f32) (harg0 : arg0.IsWhole)
    (arg1 : Memref sig .tc .vmem S8x2x2048x8 .i32) (harg1 : arg1.IsWhole) (arg2 : Memref sig .tc .vmem S8x2048x8 .f32)
    (harg2 : arg2.IsWhole) (x : Vec F S8x2048x128 .f32) :
    out0_A_1 c arg0 harg0 arg1 harg1 arg2 harg2 x = edges x := by
  unfold out0_A_1
  rw [View.read_writes_junk_eq_canon]
  exact funext fun y => View.canon_apply_of_pieces _ _ (pieces c arg0 harg0 arg1 harg1 arg2 harg2 x).1.mem y
    (cover0_A_1 c arg0 harg0 arg1 harg1 arg2 harg2 x y)

/-- What the body leaves in the second output's buffer. -/
theorem out_weights (c : Dev nD) (arg0 : Memref sig .tc .vmem S8x2048x128 .f32) (harg0 : arg0.IsWhole)
    (arg1 : Memref sig .tc .vmem S8x2x2048x8 .i32) (harg1 : arg1.IsWhole) (arg2 : Memref sig .tc .vmem S8x2048x8 .f32)
    (harg2 : arg2.IsWhole) (x : Vec F S8x2048x128 .f32) :
    out0_A_2 c arg0 harg0 arg1 harg1 arg2 harg2 x = weights x := by
  unfold out0_A_2
  rw [View.read_writes_junk_eq_canon]
  exact funext fun y => View.canon_apply_of_pieces _ _ (pieces c arg0 harg0 arg1 harg1 arg2 harg2 x).2.mem y
    (cover0_A_2 c arg0 harg0 arg1 harg1 arg2 harg2 x y)

variable (m : (ℓ : Loc nD τ sig) → Buf (Elt F) ℓ) (ρ : Dev nD → PrngReg)

/-- The array of features on a core. -/
abbrev feat (c : Dev nD) : Vec F S8x2048x128 .f32 := m ((c.tc : Thread nD τ).loc main_arg0)

/-- The grid's one block of the features starts at the origin. -/
theorem index0 : ∀ (t : Fin cfg0.N) (a : Fin S8x2048x128.rank), win0_0.index t a = 0 := by decide +kernel

/-- The block of the array of features at the grid's one point is the whole array. -/
theorem place0 (t : Fin cfg0.N) (y : S8x2048x128.Idx) : (win0_0.blk t).view.emb y = y := by
  funext a
  refine Fin.ext ?_
  blk_simp
  rw [show win0_0.index t a = 0 from index0 t a, Nat.zero_mul, Nat.zero_add]

/-- The grid's one block of the edges starts at the origin. -/
theorem index1 : ∀ (t : Fin cfg0.N) (a : Fin S8x2x2048x8.rank), win0_1.index t a = 0 := by decide +kernel

/-- The block of the array of edges at the grid's one point is the whole array. -/
theorem place1 (t : Fin cfg0.N) (y : S8x2x2048x8.Idx) : (win0_1.blk t).view.emb y = y := by
  funext a
  refine Fin.ext ?_
  blk_simp
  rw [show win0_1.index t a = 0 from index1 t a, Nat.zero_mul, Nat.zero_add]

/-- The grid's one block of the weights starts at the origin. -/
theorem index2 : ∀ (t : Fin cfg0.N) (a : Fin S8x2048x8.rank), win0_2.index t a = 0 := by decide +kernel

/-- The block of the array of weights at the grid's one point is the whole array. -/
theorem place2 (t : Fin cfg0.N) (y : S8x2048x8.Idx) : (win0_2.blk t).view.emb y = y := by
  funext a
  refine Fin.ext ?_
  blk_simp
  rw [show win0_2.index t a = 0 from index2 t a, Nat.zero_mul, Nat.zero_add]

/-- The one grid point is handed the whole array of features. -/
theorem block_feat (c : Dev nD) (t : Fin cfg0.N) : iblk m c 0 t = feat m c := by
  funext y
  blk_simp [iblk]
  exact congrArg _ (place0 t y)

/-- The array behind the first output after the run. -/
theorem arr_edges (c : Dev nD) : (dats m 0 c).arrAt 1 cfg0.N = edges (feat m c) := by
  obtain ⟨G, hG⟩ : ∃ G, G = edges (feat m c) := ⟨_, rfl⟩
  rw [← hG]
  refine (dats m 0 c).arrAt_eq_of_covers 1 _ (by decide +kernel) fun t hf y => ?_
  rw [after0_1]
  unfold outsAt0
  dsimp only
  rw [out_edges, block_feat, ← hG]
  clear hG
  blk_simp
  exact congrArg _ (place1 t y).symm

/-- The array behind the second output after the run. -/
theorem arr_weights (c : Dev nD) : (dats m 0 c).arrAt 2 cfg0.N = weights (feat m c) := by
  obtain ⟨G, hG⟩ : ∃ G, G = weights (feat m c) := ⟨_, rfl⟩
  rw [← hG]
  refine (dats m 0 c).arrAt_eq_of_covers 2 _ (by decide +kernel) fun t hf y => ?_
  rw [after0_2]
  unfold outsAt0
  dsimp only
  rw [out_weights, block_feat, ← hG]
  clear hG
  blk_simp
  exact congrArg _ (place2 t y).symm

/-- The lines after the launch, from any contents: the first result's array is the first output's, reshaped. -/
theorem tail1 (c : Dev nD) (V : Valuation τ sig (Elt F))
    (A : (w : Fin 3) → Buf (Elt F) ((spec0 w).arr.view.loc (c.tc : Thread nD τ))) :
    StableHlo.after hostOps1 (Pipeline.withArrays spec0 c V A) (Proc.devRef .tc main_v1)
      = shapeCast S8x2x16384 (A 1) shapeCasts_S8x2x2048x8_S8x2x16384 := by
  have h := Pipeline.withArrays_arr spec0 (by decide) c V A 1
  generalize Pipeline.withArrays spec0 c V A = W at h ⊢
  generalize A 1 = X at h ⊢
  subst h
  after_results_simp <;> rfl

/-- Likewise the second result's array is the second output's, reshaped. -/
theorem tail2 (c : Dev nD) (V : Valuation τ sig (Elt F))
    (A : (w : Fin 3) → Buf (Elt F) ((spec0 w).arr.view.loc (c.tc : Thread nD τ))) :
    StableHlo.after hostOps1 (Pipeline.withArrays spec0 c V A) (Proc.devRef .tc main_v2)
      = shapeCast S8x16384 (A 2) shapeCasts_S8x2048x8_S8x16384 := by
  have h := Pipeline.withArrays_arr spec0 (by decide) c V A 2
  generalize Pipeline.withArrays spec0 c V A = W at h ⊢
  generalize A 2 = X at h ⊢
  subst h
  after_results_simp <;> rfl

/-- THE RUN: both results at the reshaped arrays, the argument unchanged. -/
theorem run : θ_run defs (onTc (τ := τ) (main (F := F))) ⟨m, fun _ => 0, ρ⟩ (fun r => ∀ c : Dev nD,
      r.2.mem ((c.tc : Thread nD τ).loc main_v1) = shapeCast S8x2x16384 (edges (feat m c)) shapeCasts_S8x2x2048x8_S8x2x16384
      ∧ r.2.mem ((c.tc : Thread nD τ).loc main_v2) = shapeCast S8x16384 (weights (feat m c)) shapeCasts_S8x2048x8_S8x16384
      ∧ r.2.mem ((c.tc : Thread nD τ).loc main_arg0) = m ((c.tc : Thread nD τ).loc main_arg0)) := by
  refine (θ_run defs _ _).mono (fun r h c => ⟨(h.1 c).1, (h.1 c).2, h.2 c⟩) (θ_run_and
    (Q₁ := fun r => ∀ c : Dev nD,
      r.2.mem ((c.tc : Thread nD τ).loc main_v1) = shapeCast S8x2x16384 (edges (feat m c)) shapeCasts_S8x2x2048x8_S8x2x16384
      ∧ r.2.mem ((c.tc : Thread nD τ).loc main_v2) = shapeCast S8x16384 (weights (feat m c)) shapeCasts_S8x2048x8_S8x16384)
    ?_ (unchanged m ρ))
  refine (θ_run defs _ _).mono (fun r h c => ⟨?_, ?_⟩) (run_main m ρ)
  · refine ((h c).2 main_v1 (by decide)).trans ?_
    refine (tail1 c (V0 m c) _).trans ?_
    exact congrArg (fun X => shapeCast S8x2x16384 X shapeCasts_S8x2x2048x8_S8x2x16384) (arr_edges m c)
  · refine ((h c).2 main_v2 (by decide)).trans ?_
    refine (tail2 c (V0 m c) _).trans ?_
    exact congrArg (fun X => shapeCast S8x16384 X shapeCasts_S8x2048x8_S8x16384) (arr_weights m c)

end Cert.KernelIdeal.Knn

end
-- ==== Proof.Rows.lean ====
/- The mathematics both programs compute, row by row, over the extended reals: a row of features divided by the larger of
   its norm and a small constant, and a row of similarities with the diagonal at −∞. Whatever the features are, a divided
   row is finite, so a row of similarities is −∞ on the diagonal alone. -/
module

public import Idealize.ShloMosaic.PureOps.Ideal.Laws

@[expose] public section

noncomputable section

namespace Cert.Rows

open Idealize.ShloMosaic

/-- The small constant. -/
def eps : EReal := Ideal.ofBits .f32 0x2B8CBCCC#32

/-- The small constant is a positive real. -/
theorem eps_eq : ∃ r : ℝ, 0 < r ∧ eps = r := by
  refine ⟨_, ?_, by unfold eps; simp [Ideal.ofBits, Ideal.ieee]; rfl⟩
  positivity

/-- The word of −∞ is −∞. -/
theorem ofBits_negInf : Ideal.ofBits .f32 0xFF800000#32 = ⊥ := by simp [Ideal.ofBits, Ideal.ieee]

/-- The word of +∞ is +∞. -/
theorem ofBits_posInf : Ideal.ofBits .f32 0x7F800000#32 = ⊤ := by simp [Ideal.ofBits, Ideal.ieee]

/-- The word of 2048 is 2048. -/
theorem ofBits_2048 : Ideal.ofBits .f32 0x45000000#32 = ((2048 : ℝ) : EReal) := by
  simp [Ideal.ofBits, Ideal.ieee]
  rw [← EReal.coe_mul]
  norm_num

/-- A row divided by the larger of its norm and the small constant. -/
def unit (v : Fin 128 → EReal) (d : Fin 128) : EReal :=
  Ideal.div (v d) (max (Ideal.sqrt (∑ k, v k * v k)) eps)

/-- A square is not negative, at the infinities too. -/
theorem mul_self_nonneg (x : EReal) : 0 ≤ x * x := by
  induction x with
  | bot => simp
  | top => simp
  | coe r => exact_mod_cast _root_.mul_self_nonneg r

/-- The square of an infinity is +∞. -/
theorem mul_self_eq_top {x : EReal} (h : x = ⊤ ∨ x = ⊥) : x * x = ⊤ := by
  rcases h with rfl | rfl <;> simp

/-- A divided row is finite. -/
theorem unit_finite (v : Fin 128 → EReal) (d : Fin 128) : ∃ r : ℝ, unit v d = r := by
  obtain ⟨e, he, hee⟩ := eps_eq
  have hS : 0 ≤ ∑ k, v k * v k := Finset.sum_nonneg fun k _ => mul_self_nonneg _
  unfold unit
  rw [hee]
  by_cases hT : ∑ k, v k * v k = ⊤
  · rw [hT, Ideal.sqrt_top, max_eq_left le_top]
    exact ⟨0, by simp [Ideal.div]⟩
  · have hv : v d ≠ ⊤ ∧ v d ≠ ⊥ := by
      by_contra hne
      apply hT
      have : v d * v d = ⊤ := mul_self_eq_top (by tauto)
      refine top_le_iff.mp ?_
      rw [← this]
      exact Finset.single_le_sum (f := fun k => v k * v k) (fun k _ => mul_self_nonneg _) (Finset.mem_univ d)
    obtain ⟨s, hs⟩ : ∃ s : ℝ, ∑ k, v k * v k = s :=
      ⟨_, (EReal.coe_toReal hT (fun h => by rw [h] at hS; simp at hS)).symm⟩
    obtain ⟨x, hx⟩ : ∃ x : ℝ, v d = x := ⟨_, (EReal.coe_toReal hv.1 hv.2).symm⟩
    have hs0 : 0 ≤ s := by rw [hs] at hS; exact_mod_cast hS
    have hq : max (Ideal.sqrt (s : EReal)) (e : EReal) = ((max (Real.sqrt s) e : ℝ) : EReal) := by
      rw [Ideal.sqrt_coe, if_neg (not_lt.mpr hs0)]
      exact (EReal.coe_strictMono.monotone.map_max).symm
    have hpos : (0 : ℝ) < max (Real.sqrt s) e := lt_max_of_lt_right he
    rw [hs, hx, hq, Ideal.div_coe hpos.ne']
    exact ⟨x * (1 / max (Real.sqrt s) e), by push_cast; rfl⟩

/-- A sum of reals is the same sum over the extended reals. -/
theorem coe_sum (t : Fin 128 → ℝ) : ((∑ d, t d : ℝ) : EReal) = ∑ d, (t d : EReal) :=
  map_sum (⟨⟨Real.toEReal, EReal.coe_zero⟩, EReal.coe_add⟩ : ℝ →+ EReal) t Finset.univ

/-- The similarity of two divided rows. -/
def dot (u w : Fin 128 → EReal) : EReal := ∑ d, unit u d * unit w d

/-- The similarity of two divided rows is not −∞. -/
theorem dot_ne_bot (u w : Fin 128 → EReal) : dot u w ≠ ⊥ := by
  choose f hf using unit_finite u
  choose g hg using unit_finite w
  have : dot u w = ((∑ d, f d * g d : ℝ) : EReal) := by
    unfold dot
    rw [coe_sum]
    refine Finset.sum_congr rfl fun d _ => ?_
    rw [hf, hg, EReal.coe_mul]
  rw [this]
  exact EReal.coe_ne_bot _

/-- Row `n` of a batch's similarities: −∞ on the diagonal. -/
def simRow (u : Fin 2048 → Fin 128 → EReal) (n k : Fin 2048) : EReal := if k = n then ⊥ else dot (u n) (u k)

/-- Off the diagonal a row of similarities is not −∞: it has at least eight such entries. -/
theorem simRow_card (u : Fin 2048 → Fin 128 → EReal) (n : Fin 2048) :
    8 ≤ (Finset.univ.filter fun k => simRow u n k ≠ ⊥).card := by
  have h : (Finset.univ.filter fun k => simRow u n k ≠ ⊥) = Finset.univ.erase n := by
    ext k
    simp only [Finset.mem_filter, Finset.mem_univ, true_and, Finset.mem_erase, and_true, simRow]
    by_cases hk : k = n
    · simp [hk]
    · simp [hk, dot_ne_bot]
  rw [h, Finset.card_erase_of_mem (Finset.mem_univ _), Finset.card_univ, Fintype.card_fin]
  decide

end Cert.Rows

end
-- ==== Proof.Rounds.lean ====
/-
  Selecting the greatest entries of a row by repeated maximum, and by a stable sort.

  A row is a function `r : Fin n → EReal`. One round takes the first position at which the row is greatest and then
  overwrites that position by `⊥`. If at least `k` entries of the row are not `⊥`, then the positions that the first `k`
  rounds take are the first `k` positions of the stable sort of the row in descending order.
-/
module

public import Idealize.ShloMosaic.Lib.SortPrefix
public import Mathlib.Data.EReal.Basic

@[expose] public section

noncomputable section

namespace Cert.Rounds

open Idealize.ShloMosaic

variable {n : Nat}

/-! ## The stable sort, with its ties spelled out -/

/-- "Greater entry first": the comparison the stable sort is given. -/
def greater (r : Fin n → EReal) (a b : Fin n) : Bool := decide (r b < r a)

/-- "Greater entry first, then lower position": the order in which the stable sort leaves the positions. -/
def ahead (r : Fin n → EReal) (a b : Fin n) : Bool :=
  decide (r b < r a) || (decide (r a = r b) && decide (a < b))

/-- The second order is a strict total order on the positions. -/
theorem ahead_total (r : Fin n → EReal) : StrictTotalBefore (ahead r) := by
  classical
  have h := StrictTotalBefore.of_key_then_position (fun a b : EReal => decide (b < a)) r (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)
  have e : ahead r = fun k k' : Fin n => decide (r k' < r k) || (decide (r k = r k') && decide (k < k')) := by
    funext a b
    rfl
  rw [e]
  convert h

/-- On a list of positions in increasing order the two comparisons sort alike: inserting a position in front of
    later ones only asks whether a later position comes first, and among equal entries it does not. -/
theorem stableSort_greater (r : Fin n → EReal) (l : List (Fin n)) (hl : l.Pairwise (· < ·)) :
    stableSort (greater r) l = stableSort (ahead r) l := by
  induction l with
  | nil => rfl
  | cons a l ih =>
    obtain ⟨ha, hl'⟩ := List.pairwise_cons.mp hl
    unfold stableSort
    rw [ih hl']
    refine insertBefore_congr _ _ a _ fun b hb => ?_
    have hab : a < b := ha b ((perm_stableSort _ _).mem_iff.mp hb)
    unfold greater ahead
    rw [decide_eq_false (not_lt_of_gt hab), Bool.and_false, Bool.or_false]

/-- So the stable sort's positions are those of the strict total order. -/
theorem sortedFrom_greater (r : Fin n → EReal) : sortedFrom (greater r) = sortedFrom (ahead r) := by
  have e : sortPositions n (greater r) = sortPositions n (ahead r) :=
    stableSort_greater r _ (List.pairwise_lt_finRange n)
  funext k
  unfold sortedFrom
  rw [List.get_of_eq e]
  rfl

/-! ## The rounds -/

/-- Position `i` is the one a round takes from the row `r`: the entry there is the greatest, and no earlier entry equals it. -/
structure IsPick (r : Fin n → EReal) (i : Fin n) : Prop where
  le : ∀ c, r c ≤ r i
  first : ∀ c, r c = r i → i ≤ c

/-- A row that is not empty has such a position. -/
theorem exists_isPick [NeZero n] (r : Fin n → EReal) : ∃ i, IsPick r i := by
  classical
  obtain ⟨m, -, hm⟩ := Finset.exists_max_image (Finset.univ : Finset (Fin n)) r ⟨0, Finset.mem_univ _⟩
  have hne : (Finset.univ.filter fun c => r c = r m).Nonempty := ⟨m, by simp⟩
  refine ⟨(Finset.univ.filter fun c => r c = r m).min' hne, ?_, ?_⟩
  · intro c
    have h := (Finset.mem_filter.mp (Finset.min'_mem _ hne)).2
    rw [h]
    exact hm c (Finset.mem_univ _)
  · intro c hc
    have h := (Finset.mem_filter.mp (Finset.min'_mem _ hne)).2
    exact Finset.min'_le _ _ (by simp only [Finset.mem_filter, Finset.mem_univ, true_and]; rw [hc, h])

/-- The position a round takes. -/
def pick [NeZero n] (r : Fin n → EReal) : Fin n := (exists_isPick r).choose

/-- It is the one described above. -/
theorem isPick_pick [NeZero n] (r : Fin n → EReal) : IsPick r (pick r) := (exists_isPick r).choose_spec

/-- The row after a round: `⊥` at the position taken. -/
def next [NeZero n] (r : Fin n → EReal) : Fin n → EReal := fun c => if c = pick r then ⊥ else r c

/-- The row before round `j`. -/
def rows [NeZero n] (r : Fin n → EReal) : Nat → Fin n → EReal
  | 0 => r
  | j + 1 => next (rows r j)

/-- The position that round `j` takes. -/
def sel [NeZero n] (r : Fin n → EReal) (j : Nat) : Fin n := pick (rows r j)

/-- The greatest entry of the row before round `j`. -/
def top [NeZero n] (r : Fin n → EReal) (j : Nat) : EReal := rows r j (sel r j)

section
variable [NeZero n] (r : Fin n → EReal)

/-- Before round `j` the row is the original one with `⊥` at the positions taken so far. -/
theorem rows_eq (j : Nat) (c : Fin n) : rows r j c = if ∃ i, i < j ∧ sel r i = c then ⊥ else r c := by
  classical
  induction j with
  | zero => simp [rows]
  | succ j ih =>
    show (if c = sel r j then ⊥ else rows r j c) = _
    rw [ih]
    by_cases h : c = sel r j
    · rw [if_pos h, if_pos ⟨j, Nat.lt_succ_self j, h.symm⟩]
    · rw [if_neg h]
      by_cases h2 : ∃ i, i < j ∧ sel r i = c
      · obtain ⟨i, hi, e⟩ := h2
        rw [if_pos ⟨i, hi, e⟩, if_pos ⟨i, Nat.lt_succ_of_lt hi, e⟩]
      · rw [if_neg h2, if_neg]
        rintro ⟨i, hi, e⟩
        rcases Nat.lt_succ_iff_lt_or_eq.mp hi with hlt | rfl
        · exact h2 ⟨i, hlt, e⟩
        · exact h e.symm

/-- With at least `k` entries above `⊥`, the entry that round `j < k` takes is above `⊥`. -/
theorem top_ne_bot {k : Nat} (hk : k ≤ (Finset.univ.filter fun c => r c ≠ ⊥).card) {j : Nat} (hj : j < k) :
    top r j ≠ ⊥ := by
  classical
  -- some entry above `⊥` has not been taken yet
  have hcard : ((Finset.range j).image (sel r)).card < (Finset.univ.filter fun c => r c ≠ ⊥).card :=
    lt_of_le_of_lt Finset.card_image_le (by rw [Finset.card_range]; omega)
  obtain ⟨c, hc, hn⟩ := Finset.exists_mem_notMem_of_card_lt_card hcard
  have hc' : r c ≠ ⊥ := (Finset.mem_filter.mp hc).2
  have hrow : rows r j c = r c := by
    rw [rows_eq, if_neg]
    rintro ⟨i, hi, e⟩
    exact hn (Finset.mem_image.mpr ⟨i, Finset.mem_range.mpr hi, e⟩)
  intro h
  have hle := (isPick_pick (rows r j)).le c
  rw [show rows r j (pick (rows r j)) = ⊥ from h, hrow] at hle
  exact hc' (le_bot_iff.mp hle)

/-- It is then a position not taken before, and the row still has its original entry there. -/
theorem sel_fresh {k : Nat} (hk : k ≤ (Finset.univ.filter fun c => r c ≠ ⊥).card) {j : Nat} (hj : j < k) :
    (∀ i, i < j → sel r i ≠ sel r j) ∧ top r j = r (sel r j) := by
  have hne := top_ne_bot r hk hj
  have h := rows_eq r j (sel r j)
  by_cases h2 : ∃ i, i < j ∧ sel r i = sel r j
  · rw [if_pos h2] at h
    exact absurd h hne
  · rw [if_neg h2] at h
    exact ⟨fun i hi e => h2 ⟨i, hi, e⟩, h⟩

/-- No position that the rounds up to `j` have left alone comes ahead of the one round `j` takes. -/
theorem not_ahead_sel {k : Nat} (hk : k ≤ (Finset.univ.filter fun c => r c ≠ ⊥).card) {j : Nat} (hj : j < k) (p : Fin n)
    (hp : ∀ i, i < j → sel r i ≠ p) : ahead r p (sel r j) = false := by
  have htop := (sel_fresh r hk hj).2
  have hrow : rows r j p = r p := by
    rw [rows_eq, if_neg]
    rintro ⟨i, hi, e⟩
    exact hp i hi e
  have hpick := isPick_pick (rows r j)
  have htop' : rows r j (pick (rows r j)) = r (sel r j) := htop
  have hle := hpick.le p
  rw [htop', hrow] at hle
  have hfirst := hpick.first p
  rw [htop', hrow] at hfirst
  unfold ahead
  rw [decide_eq_false (not_lt_of_ge hle), Bool.false_or]
  by_cases e : r p = r (sel r j)
  · rw [decide_eq_false (not_lt_of_ge (show sel r j ≤ p from hfirst e)), Bool.and_false]
  · rw [decide_eq_false e, Bool.false_and]

/-- **The rounds are the head of the stable sort.** With at least `k` entries above `⊥`, the position at place `j < k`
    of the stable descending sort of the row is the one that round `j` takes. -/
theorem sortedFrom_eq_sel {k : Nat} (hkn : k ≤ n) (hk : k ≤ (Finset.univ.filter fun c => r c ≠ ⊥).card) (j : Fin k) :
    sortedFrom (greater r) (j.castLE hkn) = sel r j.val := by
  rw [sortedFrom_greater]
  refine (ahead_total r).sortedFrom_eq_of_prefix hkn (fun i : Fin k => sel r i.val) ?_ ?_ ?_ j
  · intro a b e
    rcases lt_trichotomy a.val b.val with h | h | h
    · exact absurd e ((sel_fresh r hk b.isLt).1 a.val h)
    · exact Fin.ext h
    · exact absurd e.symm ((sel_fresh r hk a.isLt).1 b.val h)
  · intro a b hab
    refine not_ahead_sel r hk a.isLt _ fun i hi => ?_
    exact (sel_fresh r hk b.isLt).1 i (lt_trans hi hab)
  · intro a p hp
    exact not_ahead_sel r hk a.isLt p fun i hi => hp ⟨i, lt_trans hi a.isLt⟩

end

end Cert.Rounds

end
-- ==== Proof.Steps.lean ====
/- The kernel's blocks read at an index, over the extended reals: a batch's similarities are the rows of `Cert.Rows`,
   and a round of the kernel is a round of `Cert.Rounds` on every row. -/
module

public import proofs.«01_k».proof.Proof.Block
public import proofs.«01_k».proof.Proof.Rows
public import proofs.«01_k».proof.Proof.Rounds
public import Idealize.ShloMosaic.Lib.ValueLayoutCasts
public import Idealize.ShloMosaic.Lib.Pipeline.Value

@[expose] public section

noncomputable section

namespace Cert.KernelIdeal.Knn

open Cert.KernelIdeal Cert.KernelIdeal.Gen Idealize.ShloMosaic Idealize.ShloMosaic.TcCoe Idealize.ShloMosaic.ValueIdx

/-- Row `n` of a matrix of similarities. -/
def rowOf (s : FVec Ideal S2048x2048 .f32) (n : Fin 2048) : Fin 2048 → EReal := fun k => s (ix2 n k)

/-- A row of a matrix of similarities, at a column. -/
theorem rowOf_apply (s : FVec Ideal S2048x2048 .f32) (n k : Fin 2048) : rowOf s n k = s (ix2 n k) := rfl

/-- Row `n` of a slab of features. -/
def featRow (x : FVec Ideal S2048x128 .f32) (n : Fin 2048) : Fin 128 → EReal := fun d => x (ix2 n d)

/-- A column of one entry a row, spread over the row's 2048 places, reads that entry. -/
theorem spread_apply {α : Type} (v : S2048x1.Idx → α) (n k : Fin 2048) :
    broadcastTo S2048x2048 v broadcasts_S2048x1_S2048x2048 (ix2 n k) = v (ix2 n 0) :=
  broadcastTo_apply v _ (ix2 n k) (ix2 n 0) fun a => by fin_cases a <;> rfl

/-- The same over a row's 128 places. -/
theorem spread_feat_apply {α : Type} (v : S2048x1.Idx → α) (n : Fin 2048) (d : Fin 128) :
    broadcastTo S2048x128 v broadcasts_S2048x1_S2048x128 (ix2 n d) = v (ix2 n 0) :=
  broadcastTo_apply v _ (ix2 n d) (ix2 n 0) fun a => by fin_cases a <;> rfl

/-- Reducing a slab of features along its rows: entry `d` of row `n` is at `(n, d)`. -/
theorem lift_feat (n : Fin 2048) (d : Fin 128) :
    reduces_S2048x128_S2048.lift (ix1 n) d = ix2 n d := by
  funext a
  fin_cases a <;> rfl

/-- Reducing a matrix of similarities along its rows: entry `k` of row `n` is at `(n, k)`. -/
theorem lift_sim (n : Fin 2048) (k : Fin 2048) :
    reduces_S2048x2048_S2048.lift (ix1 n) k = ix2 n k := by
  funext a
  fin_cases a <;> rfl

/-- A batch's divided rows. -/
theorem unitRows_apply (x : FVec Ideal S2048x128 .f32) (n : Fin 2048) (d : Fin 128) :
    unitRows x (ix2 n d) = Cert.Rows.unit (featRow x n) d := by
  unfold unitRows Cert.Rows.unit Cert.Rows.eps
  show Ideal.div (x (ix2 n d)) _ = _
  rw [spread_feat_apply]
  show Ideal.div (x (ix2 n d)) (max (Ideal.sqrt (shapeCast S2048x1 _ _ (ix2 n 0))) (Ideal.ofBits .f32 0x2B8CBCCC#32)) = _
  rw [shapeCast_a_a1_apply]
  refine congrArg (fun t => Ideal.div (x (ix2 n d)) (max (Ideal.sqrt t) (Ideal.ofBits .f32 0x2B8CBCCC#32)))
    ((Ideal.multiReduction_add_single (mulf x x) _ reduces_S2048x128_S2048 _ _ (ix1 n)).trans
      (Finset.sum_congr rfl fun (k : Fin 128) _ => ?_))
  exact congrArg (fun i => x i * x i) (lift_feat n k)

/-- A round's maximum: the largest entry of the row. -/
theorem maxCol_apply (s : FVec Ideal S2048x2048 .f32) (n : Fin 2048) :
    maxCol s (ix2 n 0) = Finset.univ.sup (rowOf s n) := by
  unfold maxCol
  rw [shapeCast_a_a1_apply]
  refine (Ideal.multiReduction_maximumf_single s _ reduces_S2048x2048_S2048 _ _ (ix1 n)).trans ?_
  show Finset.fold max (Ideal.ofBits .f32 0xFF800000#32) _ _ = _
  rw [Cert.Rows.ofBits_negInf]
  refine congrArg (fun f => Finset.fold max ⊥ f Finset.univ) (funext fun (k : Fin 2048) => ?_)
  exact congrArg s (lift_sim n k)

/-- The largest entry is the one at the pick. -/
theorem maxCol_eq (s : FVec Ideal S2048x2048 .f32) (n : Fin 2048) :
    maxCol s (ix2 n 0) = rowOf s n (Cert.Rounds.pick (rowOf s n)) := by
  rw [maxCol_apply]
  exact le_antisymm (Finset.sup_le fun k _ => (Cert.Rounds.isPick_pick _).le k) (Finset.le_sup (Finset.mem_univ _))

/-- A column's number, as a signed word, is itself. -/
theorem toInt_col (k : Fin 2048) : (BitVec.ofNat 32 k.val).toInt = k.val := by
  have := k.isLt
  rw [BitVec.toInt_eq_toNat_of_lt] <;> simp only [BitVec.toNat_ofNat] <;> omega

/-- A column's number as a float. -/
theorem cols_apply (n k : Fin 2048) : (cols : FVec Ideal S2048x2048 .f32) (ix2 n k) = ((k.val : ℝ) : EReal) := by
  unfold cols
  show FloatOps.sitofp (F := Ideal) .f32 (iota .tc S2048x2048 32 [1] iota_S2048x2048_d1_w32 (ix2 n k)) = _
  rw [iota_single_apply]
  show (((BitVec.ofNat 32 k.val).toInt : ℝ) : EReal) = _
  rw [toInt_col]
  simp

/-- A round's pick: the first column that holds the row's largest entry. -/
theorem argCol_eq (s : FVec Ideal S2048x2048 .f32) (n : Fin 2048) :
    argCol s (ix2 n 0) = (((Cert.Rounds.pick (rowOf s n)).val : ℝ) : EReal) := by
  set r := rowOf s n with hr
  have hp := Cert.Rounds.isPick_pick r
  have hval : argCol s (ix2 n 0)
      = Finset.univ.inf (fun k : Fin 2048 => if r k = r (Cert.Rounds.pick r) then ((k.val : ℝ) : EReal) else ((2048 : ℝ) : EReal)) := by
    unfold argCol
    rw [shapeCast_a_a1_apply]
    refine (multiReduction_minimumf_eq_fold (F := Ideal) _ _ reduces_S2048x2048_S2048 _ _ (ix1 n)).trans ?_
    rw [Shape.Reduces.fold_filter_drop_single]
    show Finset.fold min (Ideal.ofBits .f32 0x7F800000#32) _ _ = _
    rw [Cert.Rows.ofBits_posInf]
    refine congrArg (fun f => Finset.fold min ⊤ f Finset.univ) (funext fun (k : Fin 2048) => ?_)
    refine (congrArg (select (cmpf .oeq s (broadcastTo S2048x2048 (maxCol s) broadcasts_S2048x1_S2048x2048)) cols
      (broadcast S2048x2048 (Scalar.ofBits .f32 0x45000000#32))) (lift_sim n k)).trans ?_
    rw [select_apply, cols_apply]
    show Scalar.select (Ideal.cmp .oeq (s (ix2 n k)) (broadcastTo S2048x2048 (maxCol s) _ (ix2 n k))) _
      (Ideal.ofBits .f32 0x45000000#32) = _
    rw [spread_apply, maxCol_eq, Cert.Rows.ofBits_2048]
    show (if BitVec.ofBool (decide (r k = r (Cert.Rounds.pick r))) = 1#1 then _ else _) = _
    by_cases h : r k = r (Cert.Rounds.pick r) <;> simp [h]
  rw [hval]
  refine le_antisymm ((Finset.inf_le (Finset.mem_univ (Cert.Rounds.pick r))).trans (by rw [if_pos rfl])) ?_
  refine Finset.le_inf fun k _ => ?_
  split
  · next h => exact_mod_cast hp.first k h
  · have := (Cert.Rounds.pick r).isLt
    exact_mod_cast this.le

/-- A select on an equality of floats. -/
theorem select_oeq_apply {t : Shape} (a b x y : FVec Ideal t .f32) (i : t.Idx) :
    select (cmpf .oeq a b) x y i = if a i = b i then x i else y i := by
  show (if BitVec.ofBool (decide (a i = b i)) = 1#1 then x i else y i) = _
  by_cases h : a i = b i <;> simp [h]

/-- What a round leaves: −∞ at the pick, and every other entry as it was. -/
theorem rowOf_mask (s : FVec Ideal S2048x2048 .f32) (n : Fin 2048) :
    rowOf (mask s) n = Cert.Rounds.next (rowOf s n) := by
  funext k
  have hm : mask s (ix2 n k) = if cols (ix2 n k) = broadcastTo S2048x2048 (argCol s) broadcasts_S2048x1_S2048x2048 (ix2 n k)
      then broadcast S2048x2048 (Scalar.ofBits .f32 0xFF800000#32) (ix2 n k) else s (ix2 n k) := by
    unfold mask
    rw [select_oeq_apply]
  have hb : (broadcast S2048x2048 (Scalar.ofBits (F := Ideal) .f32 0xFF800000#32)) (ix2 n k) = (⊥ : EReal) :=
    Cert.Rows.ofBits_negInf
  rw [spread_apply, argCol_eq, cols_apply, hb] at hm
  rw [rowOf_apply, hm, ← rowOf_apply s n k]
  unfold Cert.Rounds.next
  have he : (((k.val : ℝ) : EReal) = (((Cert.Rounds.pick (rowOf s n)).val : ℝ) : EReal)) ↔ k = Cert.Rounds.pick (rowOf s n) := by
    rw [EReal.coe_eq_coe_iff, Nat.cast_inj, Fin.ext_iff]
  by_cases h : k = Cert.Rounds.pick (rowOf s n)
  · rw [if_pos h, if_pos (he.mpr h)]
  · rw [if_neg h, if_neg fun e => h (he.mp e)]

/-- The rounds of the kernel are the rounds of every row. -/
theorem rowOf_rounds (s : FVec Ideal S2048x2048 .f32) (n : Fin 2048) (j : ℕ) :
    rowOf (rounds s j) n = Cert.Rounds.rows (rowOf s n) j := by
  induction j with
  | zero => rfl
  | succ j ih =>
    show rowOf (mask (rounds s j)) n = Cert.Rounds.next (Cert.Rounds.rows (rowOf s n) j)
    rw [rowOf_mask, ih]

/-- The value stored in round `j` for row `n`. -/
theorem valBlock_rounds (s : FVec Ideal S2048x2048 .f32) (n : Fin 2048) (j : ℕ) :
    valBlock (rounds s j) (ix3 0 n 0) = Cert.Rounds.top (rowOf s n) j := by
  unfold valBlock
  rw [shapeCast_apply _ _ (ix3 0 n 0) (ix1 n) (by simp [Shape.rowMajor_val_one, Shape.rowMajor_val_three]),
    shapeCast_apply _ _ (ix1 n) (ix2 n 0) (by simp [Shape.rowMajor_val_one, Shape.rowMajor_val_two]), maxCol_eq, rowOf_rounds]
  rfl

/-- A column's number, back from a float. -/
theorem fptosi_col (k : Fin 2048) : Ideal.fptosi 32 (((k.val : ℝ) : EReal)) = BitVec.ofNat 32 k.val := by
  unfold Ideal.fptosi
  rw [Ideal.toIntClamped_coe, if_pos (Nat.cast_nonneg _), Int.floor_natCast]
  have hk := k.isLt
  rw [min_eq_right (by push_cast; omega), max_eq_right (by push_cast; omega)]
  simp

/-- The index stored in round `j` for row `n`. -/
theorem idxBlock_rounds (s : FVec Ideal S2048x2048 .f32) (n : Fin 2048) (j : ℕ) :
    idxBlock (rounds s j) (ix4 0 0 n 0) = BitVec.ofNat 32 (Cert.Rounds.sel (rowOf s n) j).val := by
  unfold idxBlock
  rw [shapeCast_apply _ _ (ix4 0 0 n 0) (ix1 n) (by simp [Shape.rowMajor_val_one, Shape.rowMajor_val_four])]
  show Ideal.fptosi 32 (shapeCast S2048 (argCol (rounds s j)) _ (ix1 n)) = _
  rw [shapeCast_apply _ _ (ix1 n) (ix2 n 0) (by simp [Shape.rowMajor_val_one, Shape.rowMajor_val_two]), argCol_eq, rowOf_rounds,
    fptosi_col]
  rfl

/-- The row number stored for row `n`. -/
theorem srcBlock_apply (n : Fin 2048) (j : Fin 8) : srcBlock (ix4 0 0 n j) = BitVec.ofNat 32 n.val := by
  unfold srcBlock
  rw [shapeCast_apply _ _ (ix4 0 0 n j) (ix2 n j) (by simp [Shape.rowMajor_val_two, Shape.rowMajor_val_four]), iota_single_apply]

/-- A batch's similarities: the rows of `Cert.Rows`. -/
theorem rowOf_sims (x : FVec Ideal S2048x128 .f32) (n : Fin 2048) :
    rowOf (sims x) n = Cert.Rows.simRow (featRow x) n := by
  funext k
  unfold Cert.Rows.simRow Cert.Rows.dot
  show sims x (ix2 n k) = _
  unfold sims
  rw [select_apply]
  have hd : diag (ix2 n k) = BitVec.ofBool (decide (k = n)) := by
    unfold diag
    show IntOp.cmpi .eq (iota .tc S2048x2048 32 [0] iota_S2048x2048_d0_w32 (ix2 n k))
      (iota .tc S2048x2048 32 [1] iota_S2048x2048_d1_w32 (ix2 n k)) = _
    rw [iota_single_apply, iota_single_apply]
    show BitVec.ofBool (BitVec.ofNat 32 n.val == BitVec.ofNat 32 k.val) = _
    congr 1
    rw [Bool.eq_iff_iff, beq_iff_eq, decide_eq_true_iff, Fin.ext_iff]
    have := n.isLt
    have := k.isLt
    constructor
    · intro h
      have := congrArg BitVec.toNat h
      simp only [BitVec.toNat_ofNat] at this
      omega
    · intro h
      rw [h]
  have hm : (matmul dot_S2048x128_S2048x128_S2048x2048_1_1_0_0_n_n none (unitRows x) (unitRows x)
      (constant S2048x2048 .f32 0x00000000#32) : FVec Ideal S2048x2048 .f32) (ix2 n k)
      = ∑ d, Cert.Rows.unit (featRow x n) d * Cert.Rows.unit (featRow x k) d := by
    refine (Ideal.matmul_constant_zero_apply _ none _ _ _).trans ?_
    rw [← Equiv.sum_comp (contrEquiv1 dot_S2048x128_S2048x128_S2048x2048_1_1_0_0_n_n 128 rfl rfl).symm]
    refine Finset.sum_congr rfl fun d _ => ?_
    have hl : dot_S2048x128_S2048x128_S2048x2048_1_1_0_0_n_n.lhsIdx (ix2 n k)
        ((contrEquiv1 dot_S2048x128_S2048x128_S2048x2048_1_1_0_0_n_n 128 rfl rfl).symm d) = ix2 n d := by
      funext a
      fin_cases a <;> rfl
    have hr : dot_S2048x128_S2048x128_S2048x2048_1_1_0_0_n_n.rhsIdx (ix2 n k)
        ((contrEquiv1 dot_S2048x128_S2048x128_S2048x2048_1_1_0_0_n_n 128 rfl rfl).symm d) = ix2 k d := by
      funext a
      fin_cases a <;> rfl
    rw [hl, hr, unitRows_apply, unitRows_apply]
  rw [hd, hm]
  show (if _ = 1#1 then Ideal.ofBits .f32 0xFF800000#32 else _) = _
  rw [Cert.Rows.ofBits_negInf]
  by_cases h : k = n <;> simp [h]

end Cert.KernelIdeal.Knn

end
-- ==== Proof.RefValue.lean ====
/- What the reference computes, read at an index over the extended reals: its similarities with the diagonal set to −∞ are
   the rows of `Cert.Rows`, and its eight values and columns for a row are those of the rounds of `Cert.Rounds`. -/
module

public import proofs.«01_k».proof.Proof.Gen.ReferenceIdeal.Read
public import proofs.«01_k».proof.Proof.Rows
public import proofs.«01_k».proof.Proof.Rounds
public import Idealize.ShloMosaic.Lib.Routing.OpsSet
public import Idealize.ShloMosaic.Lib.Routing.OpsPair

@[expose] public section

noncomputable section

namespace Cert.ReferenceIdeal.Knn

open Cert.ReferenceIdeal Cert.ReferenceIdeal.Gen Cert.ReferenceIdeal.Read Idealize.ShloMosaic Idealize.ShloMosaic.TcCoe
  Idealize.ShloMosaic.ValueIdx

/-- Row `n` of batch `b` of the features. -/
def featRow (x : FVec Ideal S8x2048x128 .f32) (b : Fin 8) (n : Fin 2048) : Fin 128 → EReal := fun d => x (ix3 b n d)

/-- The divided rows. -/
theorem unit_apply (x : FVec Ideal S8x2048x128 .f32) (b : Fin 8) (n : Fin 2048) (d : Fin 128) :
    val_main_v3 (F := Ideal) x (ix3 b n d) = Cert.Rows.unit (featRow x b n) d := by
  rw [val_main_v3_apply, val_main_v2_apply, val_main_v1_apply, val_main_v0_apply, val_main_call0_v2_apply,
    val_main_call0_v1_apply, val_main_call1_v1_apply, val_main_call1_v0_apply, val_main_cst_apply, val_main_call0_cst_apply]
  show Ideal.div (x (ix3 b n d)) (max (Ideal.ofBits .f32 0x2B8CBCCC#32) (Ideal.sqrt (Ideal.ofBits .f32 0x00000000#32 + _))) = _
  rw [Ideal.ofBits_zero_f32, zero_add, max_comm]
  unfold Cert.Rows.unit Cert.Rows.eps
  refine congrArg (fun t => Ideal.div (x (ix3 b n d)) (max (Ideal.sqrt t) (Ideal.ofBits .f32 0x2B8CBCCC#32)))
    (Finset.sum_congr rfl fun k _ => ?_)
  rw [val_main_call0_v0_apply]
  have hi : idx_main_call0_v1 (idx_main_call0_v2 (idx_main_v2 (ix3 b n d))) k = ix3 b n k := by
    funext a
    fin_cases a <;> rfl
  rw [hi]
  rfl

/-- The similarities before the diagonal is set. -/
theorem dot_apply (x : FVec Ideal S8x2048x128 .f32) (b : Fin 8) (n k : Fin 2048) :
    val_main_v5 (F := Ideal) x (ix3 b n k) = Cert.Rows.dot (featRow x b n) (featRow x b k) := by
  rw [val_main_v5_apply]
  unfold Cert.Rows.dot
  refine Finset.sum_congr rfl fun d _ => ?_
  rw [val_main_v4_apply]
  have hl : lidx_main_v5 (ix3 b n k) d = ix3 b n d := by
    funext a
    fin_cases a <;> rfl
  have hr : idx_main_v4 (ridx_main_v5 (ix3 b n k) d) = ix3 b k d := by
    funext a
    fin_cases a <;> rfl
  rw [hl, hr, unit_apply, unit_apply]

/-- Two columns side by side: the left one is column 0, -/
theorem join_left (y z : S2048x1.Idx → BitVec 32) (n : Fin 2048) :
    concatenate S2048x2 1 [⟨S2048x1, y⟩, ⟨S2048x1, z⟩] concatenates_S2048x1_S2048x1_S2048x2_d1 (ix2 n 0) = y (ix2 n 0) :=
  concatenate_pair_apply_left (t := S2048x2) 1 y z _ (ix2 n 0) rfl (ix2 n 0) fun a => match a with
    | ⟨0, _⟩ => rfl
    | ⟨1, _⟩ => rfl

/-- and the right one column 1. -/
theorem join_right (y z : S2048x1.Idx → BitVec 32) (n : Fin 2048) :
    concatenate S2048x2 1 [⟨S2048x1, y⟩, ⟨S2048x1, z⟩] concatenates_S2048x1_S2048x1_S2048x2_d1 (ix2 n 1) = z (ix2 n 0) :=
  concatenate_pair_apply_right (t := S2048x2) 1 y z _ (ix2 n 1) rfl rfl (ix2 n 0) (fun a ha => match a with
    | ⟨0, _⟩ => rfl
    | ⟨1, _⟩ => absurd rfl ha) rfl

/-- Where the diagonal is set: both words of entry `n` of the index table are `n`. -/
theorem index_apply (n : Fin 2048) (c : Fin 2) : val_main_v19 (F := Ideal) (ix2 n c) = BitVec.ofNat 32 n.val := by
  have hn := n.isLt
  have hw : ∀ y : BitVec 32, Scalar.select (IntOp.cmpi .slt (BitVec.ofNat 32 n.val) 0#32) y (BitVec.ofNat 32 n.val)
      = BitVec.ofNat 32 n.val := fun y =>
    Idealize.ShloMosaic.Routing.wrap_of_lt _ _ (by simp only [BitVec.toNat_ofNat]; omega)
  have h17 : val_main_v17 (F := Ideal) (ix2 n 0) = BitVec.ofNat 32 n.val := by
    rw [val_main_v17_apply, val_main_v11_apply, val_main_v8_apply, val_main_v7_apply, val_main_v6_apply, val_main_c_apply]
    exact hw _
  have h18 : val_main_v18 (F := Ideal) (ix2 n 0) = BitVec.ofNat 32 n.val := by
    rw [val_main_v18_apply, val_main_v16_apply, val_main_v13_apply, val_main_v12_apply, val_main_v6_apply, val_main_c_1_apply]
    exact hw _
  unfold val_main_v19
  match c with
  | ⟨0, _⟩ => exact (join_left _ _ n).trans h17
  | ⟨1, _⟩ => exact (join_right _ _ n).trans h18

/-- The update is −∞ everywhere. -/
theorem update_apply (i : S8x2048.Idx) : val_main_v21 (F := Ideal) i = (⊥ : EReal) := by
  rw [val_main_v21_apply, val_main_v20_apply, val_main_cst_3_apply]
  exact Cert.Rows.ofBits_negInf

/-- An index word below 2048, read signed. -/
theorem toInt_row (n : Fin 2048) : (BitVec.ofNat 32 n.val).toInt = n.val := by
  have := n.isLt
  rw [BitVec.toInt_eq_toNat_of_lt] <;> simp only [BitVec.toNat_ofNat] <;> omega

/-- Where update `(b, n)` lands: at `(b, n, n)`. -/
theorem lands (b : Fin 8) (n : Fin 2048) (b' : Fin 8) (n' k' : Fin 2048) :
    scatter_S8x2048x2048_S2048x2_S8x2048_0_12_12_1.resultIdx? (ix2 b n) (val_main_v19 (F := Ideal)) = some (ix3 b' n' k')
      ↔ b = b' ∧ n = n' ∧ n = k' := by
  have h0 : scatter_S8x2048x2048_S2048x2_S8x2048_0_12_12_1.siIdx (ix2 b n) ⟨0, by decide⟩ = ix2 n 0 := by
    funext a
    fin_cases a <;> rfl
  have h1 : scatter_S8x2048x2048_S2048x2_S8x2048_0_12_12_1.siIdx (ix2 b n) ⟨1, by decide⟩ = ix2 n 1 := by
    funext a
    fin_cases a <;> rfl
  have s0 : scatter_S8x2048x2048_S2048x2_S8x2048_0_12_12_1.start (ix2 b n) (val_main_v19 (F := Ideal)) 0 = 0 := rfl
  have s1 : scatter_S8x2048x2048_S2048x2_S8x2048_0_12_12_1.start (ix2 b n) (val_main_v19 (F := Ideal)) 1 = n.val := by
    have : scatter_S8x2048x2048_S2048x2_S8x2048_0_12_12_1.start (ix2 b n) (val_main_v19 (F := Ideal)) 1
      = (val_main_v19 (F := Ideal) (scatter_S8x2048x2048_S2048x2_S8x2048_0_12_12_1.siIdx (ix2 b n) ⟨0, by decide⟩)).toInt := rfl
    rw [this, h0, index_apply, toInt_row]
  have s2 : scatter_S8x2048x2048_S2048x2_S8x2048_0_12_12_1.start (ix2 b n) (val_main_v19 (F := Ideal)) 2 = n.val := by
    have : scatter_S8x2048x2048_S2048x2_S8x2048_0_12_12_1.start (ix2 b n) (val_main_v19 (F := Ideal)) 2
      = (val_main_v19 (F := Ideal) (scatter_S8x2048x2048_S2048x2_S8x2048_0_12_12_1.siIdx (ix2 b n) ⟨1, by decide⟩)).toInt := rfl
    rw [this, h1, index_apply, toInt_row]
  have w0 : scatter_S8x2048x2048_S2048x2_S8x2048_0_12_12_1.window (ix2 b n) 0 = b.val := rfl
  have w1 : scatter_S8x2048x2048_S2048x2_S8x2048_0_12_12_1.window (ix2 b n) 1 = 0 := rfl
  have w2 : scatter_S8x2048x2048_S2048x2_S8x2048_0_12_12_1.window (ix2 b n) 2 = 0 := rfl
  rw [Idealize.ShloMosaic.Routing.resultIdx?_eq_some]
  constructor
  · intro h
    have e0 := h 0
    have e1 := h 1
    have e2 := h 2
    rw [s0, w0] at e0
    rw [s1, w1] at e1
    rw [s2, w2] at e2
    have c0 : ((ix3 b' n' k' 0).val : Int) = b'.val := rfl
    have c1 : ((ix3 b' n' k' 1).val : Int) = n'.val := rfl
    have c2 : ((ix3 b' n' k' 2).val : Int) = k'.val := rfl
    refine ⟨Fin.ext ?_, Fin.ext ?_, Fin.ext ?_⟩ <;> omega
  · rintro ⟨rfl, rfl, rfl⟩ a
    fin_cases a
    · show scatter_S8x2048x2048_S2048x2_S8x2048_0_12_12_1.start (ix2 b n) (val_main_v19 (F := Ideal)) 0
        + (scatter_S8x2048x2048_S2048x2_S8x2048_0_12_12_1.window (ix2 b n) 0 : Int) = (b.val : Int)
      rw [s0, w0, zero_add]
    · show scatter_S8x2048x2048_S2048x2_S8x2048_0_12_12_1.start (ix2 b n) (val_main_v19 (F := Ideal)) 1
        + (scatter_S8x2048x2048_S2048x2_S8x2048_0_12_12_1.window (ix2 b n) 1 : Int) = (n.val : Int)
      rw [s1, w1, Nat.cast_zero, add_zero]
    · show scatter_S8x2048x2048_S2048x2_S8x2048_0_12_12_1.start (ix2 b n) (val_main_v19 (F := Ideal)) 2
        + (scatter_S8x2048x2048_S2048x2_S8x2048_0_12_12_1.window (ix2 b n) 2 : Int) = (n.val : Int)
      rw [s2, w2, Nat.cast_zero, add_zero]

/-- The similarities with the diagonal set. -/
theorem sim_apply (x : FVec Ideal S8x2048x128 .f32) (b : Fin 8) (n k : Fin 2048) :
    val_main_v22 (F := Ideal) x (ix3 b n k) = Cert.Rows.simRow (featRow x b) n k := by
  unfold val_main_v22 Cert.Rows.simRow
  by_cases h : k = n
  · subst h
    rw [if_pos rfl]
    exact Idealize.ShloMosaic.Routing.scatter_set_hit _ _ _ _ _ _ (fun i _ => update_apply i) (ix2 b k)
      ((lands b k b k k).mpr ⟨rfl, rfl, rfl⟩)
  · rw [if_neg h, Idealize.ShloMosaic.Routing.scatter_set_miss, dot_apply]
    intro i hi
    rw [eq_ix2 i] at hi
    obtain ⟨-, h1, h2⟩ := (lands _ _ b n k).mp hi
    exact h (h2.symm.trans h1)

/-- The order in which the top eight are taken, on row `n` of batch `b` of an array. -/
def order (s : S8x2048x2048.Idx → EReal) (b : Fin 8) (n k k' : Fin 2048) : Bool :=
  FloatOps.cmpfTotal (F := Ideal) (φ := .f32) .gt (s (ix3 b n k)) (s (ix3 b n k')) == 1#1

/-- It is the order of the row's values. -/
theorem order_sim (x : FVec Ideal S8x2048x128 .f32) (b : Fin 8) (n : Fin 2048) :
    order (val_main_v22 (F := Ideal) x) b n = Cert.Rounds.greater (Cert.Rows.simRow (featRow x b) n) := by
  funext k k'
  unfold order
  rw [sim_apply, sim_apply]
  generalize Cert.Rows.simRow (featRow x b) n = r
  show (BitVec.ofBool (decide (r k' < r k)) == 1#1) = decide (r k' < r k)
  cases decide (r k' < r k) <;> rfl

/-- The column the reference's sort puts in place `j` of a row. -/
theorem sorted_eq (x : FVec Ideal S8x2048x128 .f32) (b : Fin 8) (n : Fin 2048) (j : Fin 8) :
    sortedFrom (order (val_main_v22 (F := Ideal) x) b n) (j.castLE (by decide))
      = Cert.Rounds.sel (Cert.Rows.simRow (featRow x b) n) j.val := by
  rw [order_sim]
  exact Cert.Rounds.sortedFrom_eq_sel _ (by decide) (Cert.Rows.simRow_card (featRow x b) n) j

/-- The place `k'` of a row, reached from its place `k`. -/
theorem along_row (b : Fin 8) (n k k' : Fin 2048) :
    Shape.Idx.along (s := S8x2048x2048) (ix3 b n k) 2 k' = ix3 b n k' := by
  funext a
  match a with
  | ⟨0, _⟩ => rfl
  | ⟨1, _⟩ => rfl
  | ⟨2, _⟩ => rfl

/-- Place `j` of row `n` in the sorted array. -/
theorem place_row (b : Fin 8) (n : Fin 2048) (j : Fin 8) (a : Fin 3) :
    ((ix3 b n (j.castLE (by decide : 8 ≤ 2048)) : S8x2048x2048.Idx) a).val = 0 + ((ix3 b n j : S8x2048x8.Idx) a).val := by
  rw [zero_add]
  match a with
  | ⟨0, _⟩ => rfl
  | ⟨1, _⟩ => rfl
  | ⟨2, _⟩ => rfl

/-- The top eight's values are the array's, in that order. -/
theorem topK_fst (s : S8x2048x2048.Idx → EReal) (b : Fin 8) (n : Fin 2048) (j : Fin 8) :
    (Host.topK S8x2048x8 2 (FloatOps.cmpfTotal (F := Ideal) (φ := .f32) .gt) s sliceFits_S8x2048x2048_S8x2048x8).1 (ix3 b n j)
      = s (ix3 b n (sortedFrom (order s b n) (j.castLE (by decide)))) := by
  unfold Host.topK Host.sort2
  dsimp only
  rw [dif_pos (by decide)]
  dsimp only
  refine (extractStridedSlice_apply _ _ _ _ (ix3 b n (j.castLE (by decide : 8 ≤ 2048))) (place_row b n j)).trans ?_
  refine (congrArg s (along_row b n _ _)).trans ?_
  refine congrArg (fun f => s (ix3 b n (sortedFrom f (j.castLE (by decide : 8 ≤ 2048))))) (funext fun k => funext fun k' => ?_)
  exact congrArg₂ (fun i i' => FloatOps.cmpfTotal (F := Ideal) (φ := .f32) .gt (s i) (s i') == 1#1) (along_row b n _ k)
    (along_row b n _ k')

/-- The top eight's columns, likewise. -/
theorem topK_snd (s : S8x2048x2048.Idx → EReal) (b : Fin 8) (n : Fin 2048) (j : Fin 8) :
    (Host.topK S8x2048x8 2 (FloatOps.cmpfTotal (F := Ideal) (φ := .f32) .gt) s sliceFits_S8x2048x2048_S8x2048x8).2 (ix3 b n j)
      = BitVec.ofNat 32 (sortedFrom (order s b n) (j.castLE (by decide))).val := by
  unfold Host.topK Host.sort2
  dsimp only
  rw [dif_pos (by decide)]
  dsimp only
  refine (extractStridedSlice_apply _ _ _ _ (ix3 b n (j.castLE (by decide : 8 ≤ 2048))) (place_row b n j)).trans ?_
  rw [dif_pos (by decide)]
  refine (congrArg (iotaInDim S8x2048x2048 32 2) (along_row b n _ _)).trans ?_
  refine congrArg (fun f => BitVec.ofNat 32 (sortedFrom f (j.castLE (by decide : 8 ≤ 2048))).val)
    (funext fun k => funext fun k' => ?_)
  exact congrArg₂ (fun i i' => FloatOps.cmpfTotal (F := Ideal) (φ := .f32) .gt (s i) (s i') == 1#1) (along_row b n _ k)
    (along_row b n _ k')

/-- The values for row `n` of batch `b`: what the rounds find. -/
theorem values_apply (x : FVec Ideal S8x2048x128 .f32) (b : Fin 8) (n : Fin 2048) (j : Fin 8) :
    val_main_values (F := Ideal) x (ix3 b n j) = Cert.Rounds.top (Cert.Rows.simRow (featRow x b) n) j.val := by
  have hs := sorted_eq x b n j
  have hf := (Cert.Rounds.sel_fresh _ (Cert.Rows.simRow_card (featRow x b) n) j.isLt).2
  rw [hf, ← sim_apply, ← hs]
  unfold val_main_values
  exact topK_fst _ b n j

/-- The columns for row `n` of batch `b`: what the rounds pick. -/
theorem indices_apply (x : FVec Ideal S8x2048x128 .f32) (b : Fin 8) (n : Fin 2048) (j : Fin 8) :
    val_main_indices (F := Ideal) x (ix3 b n j)
      = BitVec.ofNat 32 (Cert.Rounds.sel (Cert.Rows.simRow (featRow x b) n) j.val).val := by
  rw [← sorted_eq x b n j]
  unfold val_main_indices
  exact topK_snd _ b n j

/-- Two rows of edges, one under the other: the upper one is row 0, -/
theorem stack_upper (y z : S8x1x16384.Idx → BitVec 32) (b : Fin 8) (p : Fin 16384) :
    concatenate S8x2x16384 1 [⟨S8x1x16384, y⟩, ⟨S8x1x16384, z⟩] concatenates_S8x1x16384_S8x1x16384_S8x2x16384_d1 (ix3 b 0 p)
      = y (ix3 b 0 p) :=
  concatenate_pair_apply_left (t := S8x2x16384) 1 y z _ (ix3 b 0 p) rfl (ix3 b 0 p) fun a => match a with
    | ⟨0, _⟩ => rfl
    | ⟨1, _⟩ => rfl
    | ⟨2, _⟩ => rfl

/-- and the lower one row 1. -/
theorem stack_lower (y z : S8x1x16384.Idx → BitVec 32) (b : Fin 8) (p : Fin 16384) :
    concatenate S8x2x16384 1 [⟨S8x1x16384, y⟩, ⟨S8x1x16384, z⟩] concatenates_S8x1x16384_S8x1x16384_S8x2x16384_d1 (ix3 b 1 p)
      = z (ix3 b 0 p) :=
  concatenate_pair_apply_right (t := S8x2x16384) 1 y z _ (ix3 b 1 p) rfl rfl (ix3 b 0 p) (fun a ha => match a with
    | ⟨0, _⟩ => rfl
    | ⟨1, _⟩ => absurd rfl ha
    | ⟨2, _⟩ => rfl) rfl

/-- The first result's upper row: the row number of each edge. -/
theorem first_src (x : FVec Ideal S8x2048x128 .f32) (b : Fin 8) (p : Fin 16384) :
    val_main_v30 (F := Ideal) x (ix3 b 0 p) = BitVec.ofNat 32 (p.val / 8) := by
  unfold val_main_v30
  refine (stack_upper _ _ b p).trans ?_
  rw [val_main_v28_apply, val_main_v27_apply, val_main_v25_apply, val_main_v24_apply, val_main_v23_apply]

/-- The first result's lower row: the columns, row by row. -/
theorem first_dst (x : FVec Ideal S8x2048x128 .f32) (b : Fin 8) (n : Fin 2048) (j : Fin 8) (p : Fin 16384)
    (hp : p.val = n.val * 8 + j.val) :
    val_main_v30 (F := Ideal) x (ix3 b 1 p) = val_main_indices (F := Ideal) x (ix3 b n j) := by
  unfold val_main_v30
  refine (stack_lower _ _ b p).trans ?_
  rw [val_main_v29_apply, val_main_v26_apply]
  have hi : idx_main_v26 (idx_main_v29 (ix3 b 0 p)) = ix3 b n j := by
    have hb := b.isLt
    have hn := n.isLt
    have hj := j.isLt
    funext a
    match a with
    | ⟨0, _⟩ =>
      refine Fin.ext ?_
      show (b.val * 16384 + p.val) / 16384 = b.val
      omega
    | ⟨1, _⟩ =>
      refine Fin.ext ?_
      show (b.val * 16384 + p.val) / 8 % 2048 = n.val
      omega
    | ⟨2, _⟩ =>
      refine Fin.ext ?_
      show (b.val * 16384 + p.val) % 8 = j.val
      omega
  rw [hi]

end Cert.ReferenceIdeal.Knn

end
-- ==== Proof.Equation.lean ====
/- The equation: on the same features, the kernel's two results are the reference's, entry by entry. -/
module

public import proofs.«01_k».proof.Proof.Pieces
public import proofs.«01_k».proof.Proof.Steps
public import proofs.«01_k».proof.Proof.RefValue

@[expose] public section

noncomputable section

namespace Cert.Equation

open Idealize.ShloMosaic hiding ix3 ix4 eq_ix3
open Idealize.ShloMosaic.TcCoe Idealize.ShloMosaic.ValueIdx Cert.KernelIdeal.Knn

/-- Row `n` of batch `b`'s slab is that row of the features. -/
theorem featRow_slab (x : FVec Ideal Cert.KernelIdeal.S8x2048x128 .f32) (b : Fin 8) (n : Fin 2048) :
    featRow (slab (F := Ideal) x b) n = Cert.ReferenceIdeal.Knn.featRow x b n := by
  funext d
  unfold featRow slab Cert.ReferenceIdeal.Knn.featRow
  rw [shapeCast_1ab_ab_apply]
  refine View.ld_unit_apply_of (Val := Elt Ideal) (e := .f32) x _ _ _ _ (ix3 b n d) fun a => ?_
  match a with
  | ⟨0, _⟩ => rfl
  | ⟨1, _⟩ => exact (Nat.zero_add _).symm
  | ⟨2, _⟩ => exact (Nat.zero_add _).symm

/-- Row `n` of batch `b`'s similarities, as the kernel's rounds start from them. -/
theorem row_start (x : FVec Ideal Cert.KernelIdeal.S8x2048x128 .f32) (b : Fin 8) (n : Fin 2048) :
    rowOf (sims (slab (F := Ideal) x b)) n = Cert.Rows.simRow (Cert.ReferenceIdeal.Knn.featRow x b) n := by
  rw [rowOf_sims]
  exact congrArg (fun u => Cert.Rows.simRow u n) (funext fun k => featRow_slab x b k)

/-- The kernel's array of weights is the reference's array of values. -/
theorem weights_eq (x : FVec Ideal Cert.KernelIdeal.S8x2048x128 .f32) :
    weights (F := Ideal) x = Cert.ReferenceIdeal.Read.val_main_values (F := Ideal) x := by
  funext i
  obtain ⟨b, n, j, rfl⟩ : ∃ (b : Fin 8) (n : Fin 2048) (j : Fin 8), i = ix3 b n j := ⟨i 0, i 1, i 2, eq_ix3 i⟩
  refine Eq.trans ?_ (Cert.ReferenceIdeal.Knn.values_apply x b n j).symm
  rw [← row_start]
  exact valBlock_rounds (sims (slab (F := Ideal) x b)) n j.val

/-- The row numbers in the kernel's array of edges. -/
theorem edges_src (x : FVec Ideal Cert.KernelIdeal.S8x2048x128 .f32) (b : Fin 8) (n : Fin 2048) (j : Fin 8) :
    edges (F := Ideal) x (ix4 b 0 n j) = BitVec.ofNat 32 n.val := by
  exact (if_pos (rfl : (0 : ℕ) = 0)).trans (srcBlock_apply n j)

/-- The picks in the kernel's array of edges are the reference's columns. -/
theorem edges_dst (x : FVec Ideal Cert.KernelIdeal.S8x2048x128 .f32) (b : Fin 8) (n : Fin 2048) (j : Fin 8) :
    edges (F := Ideal) x (ix4 b 1 n j) = Cert.ReferenceIdeal.Read.val_main_indices (F := Ideal) x (ix3 b n j) := by
  refine Eq.trans ?_ (Cert.ReferenceIdeal.Knn.indices_apply x b n j).symm
  rw [← row_start]
  exact (if_neg (show ¬ (1 : ℕ) = 0 by decide)).trans (idxBlock_rounds (sims (slab (F := Ideal) x b)) n j.val)

/-- The second results agree. -/
theorem second (x : FVec Ideal Cert.KernelIdeal.S8x2048x128 .f32) :
    shapeCast Cert.KernelIdeal.S8x16384 (weights (F := Ideal) x) Cert.KernelIdeal.Facts₀.shapeCasts_S8x2048x8_S8x16384
      = Cert.ReferenceIdeal.Read.val_main_v31 (F := Ideal) x := by
  rw [weights_eq]
  rfl

/-- An edge list's entry in the kernel's array. -/
theorem flat_apply {α : Type} (y : Cert.KernelIdeal.S8x2x2048x8.Idx → α) (b : Fin 8) (s : Fin 2) (n : Fin 2048) (j : Fin 8)
    (p : Fin 16384) (hp : p.val = n.val * 8 + j.val) :
    shapeCast Cert.KernelIdeal.S8x2x16384 y Cert.KernelIdeal.Facts₀.shapeCasts_S8x2x2048x8_S8x2x16384 (ix3 b s p)
      = y (ix4 b s n j) :=
  shapeCast_apply y _ (ix3 b s p) (ix4 b s n j) (by
    rw [Shape.rowMajor_val_four, Shape.rowMajor_val_three]
    show ((b.val * 2 + s.val) * 2048 + n.val) * 8 + j.val = (b.val * 2 + s.val) * 16384 + p.val
    omega)

/-- The first results agree. -/
theorem first (x : FVec Ideal Cert.KernelIdeal.S8x2048x128 .f32) :
    shapeCast Cert.KernelIdeal.S8x2x16384 (edges (F := Ideal) x) Cert.KernelIdeal.Facts₀.shapeCasts_S8x2x2048x8_S8x2x16384
      = Cert.ReferenceIdeal.Read.val_main_v30 (F := Ideal) x := by
  funext i
  obtain ⟨b, s, p, rfl⟩ : ∃ (b : Fin 8) (s : Fin 2) (p : Fin 16384), i = ix3 b s p := ⟨i 0, i 1, i 2, eq_ix3 i⟩
  have hp := p.isLt
  obtain ⟨n, j, hnj⟩ : ∃ (n : Fin 2048) (j : Fin 8), p.val = n.val * 8 + j.val :=
    ⟨⟨p.val / 8, by omega⟩, ⟨p.val % 8, by omega⟩, by dsimp only; omega⟩
  rw [flat_apply _ b s n j p hnj]
  match s with
  | ⟨0, _⟩ =>
    refine (edges_src x b n j).trans (Eq.trans ?_ (Cert.ReferenceIdeal.Knn.first_src x b p).symm)
    congr 1
    have := j.isLt
    omega
  | ⟨1, _⟩ =>
    exact (edges_dst x b n j).trans (Cert.ReferenceIdeal.Knn.first_dst x b n j p hnj).symm

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, with its argument unchanged; it has no semaphores, so its counters are at zero. -/
theorem quiescent_reference : Cert.quiescent_ReferenceIdeal (hReferenceIdeal := Cert.ReferenceIdeal.Gen.facts) := fun m ρ _ =>
  (θ_run _ _ _).mono (fun r h => ⟨fun c => (h c).2.2, sem_eq_zero_of_no_sems (by decide) _⟩)
    (Cert.ReferenceIdeal.Value.run m ρ)

/-- The reference's results on the features, by name. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v30)
            = Cert.ReferenceIdeal.Read.val_main_v30 (F := Ideal)
                (m ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_v31)
            = Cert.ReferenceIdeal.Read.val_main_v31 (F := Ideal)
                (m ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  (θ_run _ _ _).mono (fun r h c => ⟨(h c).1.trans (Cert.ReferenceIdeal.Read.val_main_v30_eq _),
    (h c).2.1.trans (Cert.ReferenceIdeal.Read.val_main_v31_eq _), (h c).2.2⟩) (Cert.ReferenceIdeal.Value.run m ρ)

/-- Over the extended reals the kernel and the reference end with equal results. -/
theorem algebraic : Cert.algebraic_KernelIdeal_ReferenceIdeal (hKernelIdeal := Cert.KernelIdeal.Gen.facts)
    (hReferenceIdeal := Cert.ReferenceIdeal.Gen.facts) := by
  intro m ρ m' ρ' _ harg
  refine ⟨_, _, Cert.KernelIdeal.Knn.run m ρ, ?_⟩
  refine (θ_run _ _ _).mono (fun r h c => ⟨?_, ?_, (h c).2.2⟩) (reference_run m' ρ')
  · refine (h c).1.trans ?_
    rw [harg c]
    exact (Cert.Equation.first (Cert.KernelIdeal.Knn.feat m c)).symm
  · refine (h c).2.1.trans ?_
    rw [harg c]
    exact (Cert.Equation.second (Cert.KernelIdeal.Knn.feat m c)).symm

/-- Everything that is claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
